-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S1x640x128 : Shape := ⟨3, ![1, 640, 128]⟩
abbrev S1024x640 : Shape := ⟨2, ![1024, 640]⟩
abbrev S640 : Shape := ⟨1, ![640]⟩
abbrev S4096x1024 : Shape := ⟨2, ![4096, 1024]⟩
abbrev S640x128 : Shape := ⟨2, ![640, 128]⟩
abbrev S640x1 : Shape := ⟨2, ![640, 1]⟩
abbrev S4096x256 : Shape := ⟨2, ![4096, 256]⟩
abbrev S640x4096 : Shape := ⟨2, ![640, 4096]⟩
abbrev S1024x1024 : Shape := ⟨2, ![1024, 1024]⟩
abbrev S1024x256 : Shape := ⟨2, ![1024, 256]⟩
abbrev S640x1024 : Shape := ⟨2, ![640, 1024]⟩
abbrev S320x1024 : Shape := ⟨2, ![320, 1024]⟩
abbrev S1024 : Shape := ⟨1, ![1024]⟩
abbrev S1x1024 : Shape := ⟨2, ![1, 1024]⟩
abbrev S320x128 : Shape := ⟨2, ![320, 128]⟩
abbrev S1024x128 : Shape := ⟨2, ![1024, 128]⟩
abbrev S4096x640 : Shape := ⟨2, ![4096, 640]⟩
abbrev S4096x2x320 : Shape := ⟨3, ![4096, 2, 320]⟩
abbrev S2x2048x256 : Shape := ⟨3, ![2, 2048, 256]⟩

abbrev nBuf : Space → Nat
  | .hbm => 12
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1x640x128, .f32⟩
  | .hbm, ⟨2, _⟩ => ⟨S1024x640, .f32⟩
  | .hbm, ⟨3, _⟩ => ⟨S640, .f32⟩
  | .hbm, ⟨4, _⟩ => ⟨S4096x1024, .f32⟩
  | .hbm, ⟨5, _⟩ => ⟨S640x128, .f32⟩
  | .hbm, ⟨6, _⟩ => ⟨S640x1, .f32⟩
  | .hbm, ⟨7, _⟩ => ⟨S4096x256, .f32⟩
  | .hbm, ⟨8, _⟩ => ⟨S640x4096, .f32⟩
  | .hbm, ⟨9, _⟩ => ⟨S4096x640, .f32⟩
  | .hbm, ⟨10, _⟩ => ⟨S4096x2x320, .f32⟩
  | .hbm, ⟨11, _⟩ => ⟨S2x2048x256, .f32⟩
  | .local _ .vmem, ⟨0, _⟩ => ⟨S1024x1024, .f32⟩
  | .local _ .vmem, ⟨1, _⟩ => ⟨S1024x1024, .f32⟩
  | .local _ .vmem, ⟨2, _⟩ => ⟨S1024x640, .f32⟩
  | .local _ .vmem, ⟨3, _⟩ => ⟨S640x1, .f32⟩
  | .local _ .vmem, ⟨4, _⟩ => ⟨S640x128, .f32⟩
  | .local _ .vmem, ⟨5, _⟩ => ⟨S1024x256, .f32⟩
  | .local _ .vmem, ⟨6, _⟩ => ⟨S1024x256, .f32⟩
  | .local _ .vmem, ⟨7, _⟩ => ⟨S640x1024, .f32⟩
  | .local _ .vmem, ⟨8, _⟩ => ⟨S640x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x2048x1024 : Shape := ⟨3, ![2, 2048, 1024]⟩
abbrev S1x640x128 : Shape := ⟨3, ![1, 640, 128]⟩
abbrev S1024x640 : Shape := ⟨2, ![1024, 640]⟩
abbrev S640 : Shape := ⟨1, ![640]⟩
abbrev S2x2048x640 : Shape := ⟨3, ![2, 2048, 640]⟩
abbrev S1x1x640 : Shape := ⟨3, ![1, 1, 640]⟩
abbrev S8192x320 : Shape := ⟨2, ![8192, 320]⟩
abbrev S_ : Shape := ⟨0, ![]⟩
abbrev S8192 : Shape := ⟨1, ![8192]⟩
abbrev S8192x1 : Shape := ⟨2, ![8192, 1]⟩
abbrev S1x320 : Shape := ⟨2, ![1, 320]⟩
abbrev S4096x2x320 : Shape := ⟨3, ![4096, 2, 320]⟩
abbrev S2x320x128 : Shape := ⟨3, ![2, 320, 128]⟩
abbrev S2x128x4096 : Shape := ⟨3, ![2, 128, 4096]⟩
abbrev S4096x2x128 : Shape := ⟨3, ![4096, 2, 128]⟩
abbrev S2x2048x256 : Shape := ⟨3, ![2, 2048, 256]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x640x128, .f32⟩
  | .hbm, ⟨2, _⟩ => ⟨S1024x640, .f32⟩
  | .hbm, ⟨3, _⟩ => ⟨S640, .f32⟩
  | .hbm, ⟨4, _⟩ => ⟨S2x2048x640, .f32⟩
  | .hbm, ⟨5, _⟩ => ⟨S1x1x640, .f32⟩
  | .hbm, ⟨6, _⟩ => ⟨S2x2048x640, .f32⟩
  | .hbm, ⟨7, _⟩ => ⟨S2x2048x640, .f32⟩
  | .hbm, ⟨8, _⟩ => ⟨S8192x320, .f32⟩
  | .hbm, ⟨9, _⟩ => ⟨S8192x320, .i32⟩
  | .hbm, ⟨10, _⟩ => ⟨S_, .f32⟩
  | .hbm, ⟨11, _⟩ => ⟨S_, .i32⟩
  | .hbm, ⟨12, _⟩ => ⟨S8192, .f32⟩
  | .hbm, ⟨13, _⟩ => ⟨S8192, .i32⟩
  | .hbm, ⟨14, _⟩ => ⟨S8192x1, .i32⟩
  | .hbm, ⟨15, _⟩ => ⟨S1x320, .i32⟩
  | .hbm, ⟨16, _⟩ => ⟨S8192x320, .i32⟩
  | .hbm, ⟨17, _⟩ => ⟨S8192x320, .i32⟩
  | .hbm, ⟨18, _⟩ => ⟨S8192x320, .i1⟩
  | .hbm, ⟨19, _⟩ => ⟨S8192x320, .f32⟩
  | .hbm, ⟨20, _⟩ => ⟨S4096x2x320, .f32⟩
  | .hbm, ⟨21, _⟩ => ⟨S2x320x128, .f32⟩
  | .hbm, ⟨22, _⟩ => ⟨S2x128x4096, .f32⟩
  | .hbm, ⟨23, _⟩ => ⟨S4096x2x128, .f32⟩
  | .hbm, ⟨24, _⟩ => ⟨S2x2048x256, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v5 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Proof.FirstMax.lean ====
/- The first place of the greatest value among the 320 logits of one group, and the two ways the programs find it:
   a maximum followed by a minimum over the places that attain it (the kernel), and one left fold over pairs of a value
   and its place (the reference's argmax). Both give the word of `firstMax`, ties and `⊥` included. -/
module

public import Idealize.ShloMosaic.PureOps.Ideal.Laws
public import Idealize.ShloMosaic.Lib.SortNet.Extract
public import Mathlib.Data.Finset.Fold
public import Mathlib.Order.WellFounded

@[expose] public section

noncomputable section

open Idealize.ShloMosaic

namespace Cert.Vq

/-- The place `i` is the first one where `f` takes its greatest value. -/
def IsFirstMax (f : Fin 320 → EReal) (i : Fin 320) : Prop :=
  (∀ v, f v ≤ f i) ∧ ∀ v, f v = f i → i ≤ v

/-- Among 320 extended reals one stands first among the greatest. -/
theorem exists_isFirstMax (f : Fin 320 → EReal) : ∃ i, IsFirstMax f i := by
  obtain ⟨k, -, hk⟩ := Finset.exists_max_image Finset.univ f ⟨0, Finset.mem_univ _⟩
  obtain ⟨i, hi, hmin⟩ := Finset.exists_min_image (Finset.univ.filter fun v => f v = f k) id
    ⟨k, by simp⟩
  have hik : f i = f k := (Finset.mem_filter.mp hi).2
  refine ⟨i, fun v => hik ▸ hk v (Finset.mem_univ _), fun v hv => hmin v ?_⟩
  exact Finset.mem_filter.mpr ⟨Finset.mem_univ _, hv.trans hik⟩

/-- No two places are both first among the greatest. -/
theorem IsFirstMax.unique {f : Fin 320 → EReal} {i j : Fin 320} (hi : IsFirstMax f i) (hj : IsFirstMax f j) : i = j :=
  have e : f i = f j := le_antisymm (hj.1 i) (hi.1 j)
  le_antisymm (hi.2 j e.symm) (hj.2 i e)

/-- The first place where `f` takes its greatest value. -/
def firstMax (f : Fin 320 → EReal) : Fin 320 := Classical.choose (exists_isFirstMax f)

/-- `firstMax f` is the first place of the greatest value of `f`. -/
theorem firstMax_spec (f : Fin 320 → EReal) : IsFirstMax f (firstMax f) := Classical.choose_spec (exists_isFirstMax f)

/-- The one-hot row of `f`: one at the first place of its greatest value, zero at every other. -/
def oneHot (f : Fin 320 → EReal) (v : Fin 320) : EReal := if v = firstMax f then 1 else 0

/-! ## The words of the places -/

/-- The word of a place, read as a signed number, is the place. -/
theorem toInt_place {k : Nat} (hk : k ≤ 320) : (BitVec.ofNat 32 k).toInt = (k : Int) := by
  rw [BitVec.toInt_eq_toNat_of_lt, BitVec.toNat_ofNat, Nat.mod_eq_of_lt (by omega)]
  rw [BitVec.toNat_ofNat, Nat.mod_eq_of_lt (by omega)]; omega

/-- Two places with the same word are the same place. -/
theorem place_inj {v i : Fin 320} : BitVec.ofNat 32 v.val = BitVec.ofNat 32 i.val ↔ v = i := by
  refine ⟨fun h => Fin.ext ?_, fun h => by rw [h]⟩
  have h' := congrArg BitVec.toInt h
  rw [toInt_place (by omega), toInt_place (by omega)] at h'
  exact_mod_cast h'

/-! ## The kernel's way: a maximum, then the least place that attains it -/

/-- The fold of `max` from minus infinity is the value at the first place of the greatest value. -/
theorem fold_max_eq (f : Fin 320 → EReal) :
    Finset.univ.fold max (Ideal.ofBits .f32 0xFF800000#32) f = f (firstMax f) := by
  have hb : Ideal.ofBits .f32 0xFF800000#32 = (⊥ : EReal) := by simp [Ideal.ofBits, Ideal.ieee]
  rw [hb]
  refine le_antisymm ?_ ?_
  · exact (Finset.fold_max_le _).mpr ⟨bot_le, fun v _ => (firstMax_spec f).1 v⟩
  · exact (Finset.le_fold_max _).mpr (.inr ⟨_, Finset.mem_univ _, le_rfl⟩)

/-- The least word among the places that attain the greatest value, the number 320 standing for the others, is the
    word of the first of them. -/
theorem fold_min_eq (f : Fin 320 → EReal) (m : EReal) (hm : m = f (firstMax f)) :
    Finset.univ.fold IntOp.minsi 2147483647#32
        (fun v : Fin 320 => if f v = m then BitVec.ofNat 32 v.val else 320#32)
      = BitVec.ofNat 32 (firstMax f).val := by
  subst hm
  have hi : (firstMax f).val < 320 := (firstMax f).isLt
  apply BitVec.eq_of_toInt_eq
  rw [toInt_place (by omega)]
  refine le_antisymm ?_ ?_
  · refine (Finset.fold_op_rel_iff_or (r := fun x y : BitVec 32 => y.toInt ≤ x.toInt)
      (op := IntOp.minsi) (c := BitVec.ofNat 32 (firstMax f).val) ?_).mpr ?_ |>.trans_eq (toInt_place (by omega))
    · intro x y z; rw [SortNet.toInt_minsi]; exact min_le_iff
    · exact .inr ⟨firstMax f, Finset.mem_univ _, by rw [if_pos rfl]⟩
  · refine (toInt_place (k := (firstMax f).val) (by omega)).symm.trans_le
      ((Finset.fold_op_rel_iff_and (r := fun x y : BitVec 32 => x.toInt ≤ y.toInt)
      (op := IntOp.minsi) (c := BitVec.ofNat 32 (firstMax f).val) ?_).mpr ⟨?_, ?_⟩)
    · intro x y z; rw [SortNet.toInt_minsi]; exact le_min_iff
    · rw [toInt_place (by omega)]
      have : (2147483647#32 : BitVec 32).toInt = 2147483647 := by decide
      omega
    · intro v _
      rw [toInt_place (by omega)]
      split
      · rename_i h
        have := (firstMax_spec f).2 v h
        rw [toInt_place (by omega)]; exact_mod_cast this
      · have : (320#32 : BitVec 32).toInt = 320 := by decide
        omega

/-- What the kernel computes for one column of logits is the column's one-hot row. -/
theorem kernel_oneHot (f : Fin 320 → EReal) (v : Fin 320) :
    FloatOps.sitofp (F := Ideal) .f32 (BitVec.setWidth 32 (IntOp.cmpi .eq (BitVec.ofNat 32 v.val)
      (Finset.univ.fold IntOp.minsi 2147483647#32 (fun u : Fin 320 =>
        if f u = Finset.univ.fold max (Ideal.ofBits .f32 0xFF800000#32) f then BitVec.ofNat 32 u.val else 320#32))))
      = oneHot f v := by
  rw [fold_min_eq f _ (fold_max_eq f)]
  show (((BitVec.setWidth 32 (BitVec.ofBool (BitVec.ofNat 32 v.val == BitVec.ofNat 32 (firstMax f).val))).toInt : ℝ) : EReal) = _
  unfold oneHot
  by_cases h : v = firstMax f
  · rw [if_pos h, ← h, beq_self_eq_true]; simp
  · rw [if_neg h, beq_eq_false_iff_ne.mpr fun e => h (place_inj.mp e)]; simp

/-! ## The reference's way: one fold over pairs of a value and its place -/

/-- The pair `p` is at least as good as `q`: its value is greater, or equal with a place no later. -/
def Beats (p q : EReal × BitVec 32) : Prop := q.1 < p.1 ∨ (q.1 = p.1 ∧ p.2.toInt ≤ q.2.toInt)

/-- A pair is at least as good as itself. -/
theorem Beats.refl (p : EReal × BitVec 32) : Beats p p := .inr ⟨rfl, le_rfl⟩

/-- Being at least as good carries over two steps. -/
theorem Beats.trans {p q r : EReal × BitVec 32} (h : Beats p q) (h' : Beats q r) : Beats p r := by
  rcases h with h | ⟨h, hl⟩ <;> rcases h' with h' | ⟨h', hl'⟩
  · exact .inl (h'.trans h)
  · exact .inl (h' ▸ h)
  · exact .inl (h ▸ h')
  · exact .inr ⟨h'.trans h, hl.trans hl'⟩

/-- A left fold that keeps the better of two pairs ends at a pair it has met, at least as good as every one. -/
theorem foldl_best {red : EReal × BitVec 32 → EReal × BitVec 32 → EReal × BitVec 32}
    (hred : ∀ a b, (red a b = a ∨ red a b = b) ∧ Beats (red a b) a ∧ Beats (red a b) b)
    (L : List (EReal × BitVec 32)) (p : EReal × BitVec 32) :
    (L.foldl red p = p ∨ L.foldl red p ∈ L) ∧ Beats (L.foldl red p) p ∧ ∀ q ∈ L, Beats (L.foldl red p) q := by
  induction L generalizing p with
  | nil => exact ⟨.inl rfl, Beats.refl p, fun q hq => absurd hq List.not_mem_nil⟩
  | cons a L ih =>
    obtain ⟨hmem, hp, hall⟩ := ih (red p a)
    obtain ⟨hor, h1, h2⟩ := hred p a
    rw [List.foldl_cons]
    refine ⟨?_, hp.trans h1, fun q hq => ?_⟩
    · rcases hmem with e | h
      · rcases hor with e' | e'
        · exact .inl (e.trans e')
        · exact .inr (by rw [e, e']; exact List.mem_cons_self)
      · exact .inr (List.mem_cons_of_mem _ h)
    · rcases List.mem_cons.mp hq with rfl | hq
      · exact hp.trans h2
      · exact hall q hq

/-- The fold from minus infinity at place 0 over a list that holds exactly the 320 pairs of a value and its place ends
    with the word of the first place of the greatest value. -/
theorem foldl_firstMax {red : EReal × BitVec 32 → EReal × BitVec 32 → EReal × BitVec 32}
    (hred : ∀ a b, (red a b = a ∨ red a b = b) ∧ Beats (red a b) a ∧ Beats (red a b) b)
    (f : Fin 320 → EReal) (L : List (EReal × BitVec 32))
    (hL : ∀ p, p ∈ L ↔ ∃ v : Fin 320, p = (f v, BitVec.ofNat 32 v.val)) :
    (L.foldl red (⊥, 0#32)).2 = BitVec.ofNat 32 (firstMax f).val := by
  obtain ⟨hmem, -, hall⟩ := foldl_best hred L (⊥, 0#32)
  generalize L.foldl red (⊥, 0#32) = r at hmem hall ⊢
  -- the result is one of the 320 pairs: the initial one is only kept when it is the pair of place 0
  have hr : ∃ v : Fin 320, r = (f v, BitVec.ofNat 32 v.val) := by
    rcases hmem with e | h
    · refine ⟨0, ?_⟩
      rcases hall _ ((hL _).mpr ⟨0, rfl⟩) with h | ⟨h, -⟩
      · exact absurd (e ▸ h) not_lt_bot
      · rw [e] at h ⊢; rw [show f 0 = ⊥ from h]; rfl
    · exact (hL r).mp h
  obtain ⟨v, rfl⟩ := hr
  suffices h : v = firstMax f by rw [h]
  refine IsFirstMax.unique (f := f) ⟨fun u => ?_, fun u hu => ?_⟩ (firstMax_spec f)
  · rcases hall _ ((hL _).mpr ⟨u, rfl⟩) with h | ⟨h, -⟩
    · exact le_of_lt h
    · exact le_of_eq h
  · rcases hall _ ((hL _).mpr ⟨u, rfl⟩) with h | ⟨-, h⟩
    · exact absurd hu (ne_of_lt h)
    · have h' : (BitVec.ofNat 32 v.val).toInt ≤ (BitVec.ofNat 32 u.val).toInt := h
      rw [toInt_place (by omega), toInt_place (by omega)] at h'
      exact_mod_cast h'

/-- One step of the reference's argmax keeps the better of its two pairs. -/
theorem argmax_step (a b : EReal × BitVec 32) :
    ∀ c : EReal × BitVec 32,
      c = (Scalar.select (IntOp.ori (Ideal.cmp .ogt a.1 b.1) (Ideal.cmp .une a.1 a.1)) a.1 b.1,
        Scalar.select (IntOp.ori (IntOp.ori (Ideal.cmp .ogt a.1 b.1) (Ideal.cmp .une a.1 a.1))
          (IntOp.andi (Ideal.cmp .oeq a.1 b.1) (IntOp.cmpi .slt a.2 b.2))) a.2 b.2) →
      (c = a ∨ c = b) ∧ Beats c a ∧ Beats c b := by
  rintro c rfl
  obtain ⟨x, i⟩ := a
  obtain ⟨y, j⟩ := b
  have hs : IntOp.cmpi .slt i j = BitVec.ofBool (decide (i.toInt < j.toInt)) := rfl
  simp only [Ideal.cmp, hs, Beats]
  rcases lt_trichotomy y x with h | h | h
  · have e1 : decide (y < x) = true := decide_eq_true h
    have e2 : decide (x = y) = false := decide_eq_false (ne_of_gt h)
    simp [e1, e2, IntOp.ori, IntOp.andi, Scalar.select, h]
  · subst h
    by_cases hij : i.toInt < j.toInt
    · simp [hij, IntOp.ori, IntOp.andi, Scalar.select, hij.le]
    · simp [hij, IntOp.ori, IntOp.andi, Scalar.select, not_lt.mp hij]
  · have e1 : decide (y < x) = false := decide_eq_false (not_lt.mpr h.le)
    have e2 : decide (x = y) = false := decide_eq_false (ne_of_lt h)
    simp [e1, e2, IntOp.ori, IntOp.andi, Scalar.select, h]

end Cert.Vq

end
-- ==== Proof.Spec.lean ====
/- What both programs are shown to compute, index by index, as plain functions of the four argument arrays:
   `hs` the hidden states [2, 2048, 1024], `cb` the codebook [1, 640, 128], `w` the projection [1024, 640] and `b` its
   bias [640]. The 640 columns are two groups of 320 codes; the 4096 tokens are the two batches of 2048 in order. -/
module

public import proofs.«01_k».proof.Proof.FirstMax
public import Idealize.ShloMosaic.Lib.Pointwise

@[expose] public section

noncomputable section

open Idealize.ShloMosaic

namespace Cert.Vq

/-- The column (and codebook row) of code `v` of group `g`. -/
def col (g : Fin 2) (v : Fin 320) : Fin 640 := ⟨320 * g.val + v.val, by omega⟩

/-- The group of a column. -/
def colGroup (r : Fin 640) : Fin 2 := ⟨r.val / 320, by omega⟩
/-- The code of a column within its group. -/
def colCode (r : Fin 640) : Fin 320 := ⟨r.val % 320, by omega⟩

/-- The first group's columns are the first 320. -/
theorem col_zero (v : Fin 320) : col 0 v = ⟨v.val, by omega⟩ := Fin.ext (Nat.zero_add _)
/-- The second group's columns are the last 320. -/
theorem col_one (v : Fin 320) : col 1 v = ⟨320 + v.val, by omega⟩ := rfl

/-- The column of a group and a code has that group. -/
theorem colGroup_col (g : Fin 2) (v : Fin 320) : colGroup (col g v) = g :=
  Fin.ext (show (320 * g.val + v.val) / 320 = g.val by omega)
/-- The column of a group and a code has that code. -/
theorem colCode_col (g : Fin 2) (v : Fin 320) : colCode (col g v) = v :=
  Fin.ext (show (320 * g.val + v.val) % 320 = v.val by omega)

/-- The group of a channel of the quantized vector. -/
def chanGroup (c : Fin 256) : Fin 2 := ⟨c.val / 128, by omega⟩
/-- The place of a channel within its group's 128. -/
def chanPlace (c : Fin 256) : Fin 128 := ⟨c.val % 128, by omega⟩

/-- The token of batch `s` at position `p`. -/
def token (s : Fin 2) (p : Fin 2048) : Fin 4096 := ⟨2048 * s.val + p.val, by omega⟩
/-- The batch of a token. -/
def tokenBatch (t : Fin 4096) : Fin 2 := ⟨t.val / 2048, by omega⟩
/-- The position of a token in its batch. -/
def tokenPos (t : Fin 4096) : Fin 2048 := ⟨t.val % 2048, by omega⟩

variable (hs : (⟨3, ![2, 2048, 1024]⟩ : Shape).Idx → EReal) (cb : (⟨3, ![1, 640, 128]⟩ : Shape).Idx → EReal)
variable (w : (⟨2, ![1024, 640]⟩ : Shape).Idx → EReal) (b : (⟨1, ![640]⟩ : Shape).Idx → EReal)

/-- The logit of token `t` for code `v` of group `g`: the projection of its hidden state, plus the bias. -/
def logits (t : Fin 4096) (g : Fin 2) (v : Fin 320) : EReal :=
  (∑ k : Fin 1024, hs (ix3 (tokenBatch t) (tokenPos t) k) * w (ix2 k (col g v))) + b (ix1 (col g v))

/-- The codebook's choice: per token and group one at the first code of the greatest logit, zero elsewhere. -/
def dist : (⟨3, ![4096, 2, 320]⟩ : Shape).Idx → EReal :=
  fun j => oneHot (logits hs w b (j 0) (j 1)) (j 2)

/-- The quantized vectors: per token the two groups' chosen codebook rows side by side, each as the sum of the group's
    320 rows weighted by the one-hot choice. -/
def quantized : (⟨3, ![2, 2048, 256]⟩ : Shape).Idx → EReal :=
  fun j => ∑ v : Fin 320, oneHot (logits hs w b (token (j 0) (j 1)) (chanGroup (j 2))) v
    * cb (ix3 0 (col (chanGroup (j 2)) v) (chanPlace (j 2)))

end Cert.Vq

end
-- ==== Proof.Block.lean ====
/- What the kernel's body leaves in its two output blocks, from the four input blocks: 1024 tokens' hidden states
   `x`, the whole projection `w`, the bias `b` as a column, and the codebook `cb`. Every statement holds for both groups. -/
module

public import proofs.«01_k».proof.Proof.Spec
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem

namespace Cert.KernelIdeal

open Gen Vq

variable (x : FVec Ideal S1024x1024 .f32) (w : FVec Ideal S1024x640 .f32) (b : FVec Ideal S640x1 .f32)
variable (cb : FVec Ideal S640x128 .f32)

/-- The logit of the block's token `t` for code `v` of group `g`, in the kernel's order of factors. -/
def blockLogits (t : Fin 1024) (g : Fin 2) (v : Fin 320) : EReal :=
  (∑ k : Fin 1024, w (ix2 k (col g v)) * x (ix2 t k)) + b (ix2 (col g v) 0)

/-- The block of logits, codes by tokens, at the row of code `v` of group `g`. -/
theorem logits_apply (g : Fin 2) (v : Fin 320) (t : Fin 1024) :
    k0_pay2 (F := Ideal) x w b (ix2 (col g v) t) = blockLogits x w b t g v := by
  pointwise [k0_pay2]
  rfl

/-- The first group's one-hot block. -/
theorem choice0_apply (v : Fin 320) (t : Fin 1024) :
    k0_pay3 (F := Ideal) x w b (ix2 v t) = oneHot (blockLogits x w b t 0) v := by
  rw [← kernel_oneHot]
  pointwise [k0_pay3]
  simp only [← col_zero, ← logits_apply]

/-- The second group's one-hot block. -/
theorem choice1_apply (v : Fin 320) (t : Fin 1024) :
    k0_pay5 (F := Ideal) x w b (ix2 v t) = oneHot (blockLogits x w b t 1) v := by
  rw [← kernel_oneHot]
  pointwise [k0_pay5]
  simp only [← col_one, ← logits_apply]
  rfl

/-- The offsets of a view that starts at the origin. -/
theorem hz : (![0, 0] : Fin 2 → Nat) = fun _ => 0 := funext fun a => by fin_cases a <;> rfl

/-- The choice block after the body: at row `r` and token `t`, the one-hot row of `r`'s group at `r`'s code. -/
theorem out_choice (r : Fin 640) (t : Fin 1024) :
    out0_5 (F := Ideal) x w b cb (ix2 r t) = oneHot (blockLogits x w b t (colGroup r)) (colCode r) := by
  unfold out0_5 k0_pay6
  rw [View.ld_unit_zero hz, View.ld_unit_zero hz, View.ld_unit_zero hz]
  refine View.canon_apply_of_pieces (Val := Elt Ideal) (e := .f32)
    (fun y : S640x1024.Idx => (oneHot (blockLogits x w b (y 1) (colGroup (y 0))) (colCode (y 0)) : EReal)) _ ?_ (ix2 r t)
    (cover0_5 _ _ _)
  intro p hp
  rcases List.mem_cons.mp hp with rfl | hp
  · intro y
    obtain ⟨v, u, rfl⟩ : ∃ (v : Fin 320) (u : Fin 1024), y = ix2 v u := ⟨y 0, y 1, eq_ix2 y⟩
    have e : (Rect.unit (s := S640x1024) ![320, 0] S320x1024.size inb_S640x1024_S320x1024_320_0).emb (ix2 v u)
        = ix2 (col 1 v) u := by
      funext a; apply Fin.ext
      match a with
      | ⟨0, _⟩ => show 320 + 1 * v.val = 320 * 1 + v.val; omega
      | ⟨1, _⟩ => show 0 + 1 * u.val = u.val; omega
    refine (choice1_apply x w b v u).trans ?_
    show _ = oneHot (blockLogits x w b _ _) _
    rw [e]
    show _ = oneHot (blockLogits x w b u (colGroup (col 1 v))) (colCode (col 1 v))
    rw [colGroup_col, colCode_col]
  · rcases List.mem_singleton.mp hp with rfl
    intro y
    obtain ⟨v, u, rfl⟩ : ∃ (v : Fin 320) (u : Fin 1024), y = ix2 v u := ⟨y 0, y 1, eq_ix2 y⟩
    have e : (Rect.unit (s := S640x1024) ![0, 0] S320x1024.size inb_S640x1024_S320x1024_0_0).emb (ix2 v u)
        = ix2 (col 0 v) u := by
      funext a; apply Fin.ext
      match a with
      | ⟨0, _⟩ => show 0 + 1 * v.val = 320 * 0 + v.val; omega
      | ⟨1, _⟩ => show 0 + 1 * u.val = u.val; omega
    refine (choice0_apply x w b v u).trans ?_
    show _ = oneHot (blockLogits x w b _ _) _
    rw [e]
    show _ = oneHot (blockLogits x w b u (colGroup (col 0 v))) (colCode (col 0 v))
    rw [colGroup_col, colCode_col]

/-- The vector block after the body: at token `t` and channel `c`, the sum of the group's codebook rows weighted by the
    one-hot choice. -/
theorem out_vector (t : Fin 1024) (c : Fin 256) :
    out0_4 (F := Ideal) x w b cb (ix2 t c)
      = ∑ v : Fin 320, oneHot (blockLogits x w b t (chanGroup c)) v * cb (ix2 (col (chanGroup c) v) (chanPlace c)) := by
  unfold out0_4 k0_pay6
  rw [View.canon_unit_zero hz, View.ld_unit_zero hz, View.ld_unit_zero hz, View.ld_unit_zero hz]
  rw [View.ld_unit, View.ld_unit]
  pointwise [k0_pay1, k0_pay4]
  simp only [choice0_apply, choice1_apply]
  by_cases h : c.val < 128
  · rw [dif_pos h, show chanGroup c = 0 from Fin.ext (Nat.div_eq_of_lt h)]
    refine Finset.sum_congr rfl fun v _ => ?_
    rw [col_zero, show chanPlace c = ⟨c.val, h⟩ from Fin.ext (Nat.mod_eq_of_lt h)]
  · have hc : c.val < 256 := c.isLt
    rw [dif_neg h, show chanGroup c = 1 from Fin.ext (show c.val / 128 = 1 by omega)]
    refine Finset.sum_congr rfl fun v _ => ?_
    rw [col_one, show chanPlace c = ⟨c.val - 128, by omega⟩ from Fin.ext (show c.val % 128 = c.val - 128 by omega)]

end Cert.KernelIdeal

end
-- ==== Proof.Array.lean ====
/- What the kernel's two result arrays hold after the grid's four points, from the argument arrays: each point's block is
   the matching block of one whole-array function, and the blocks cover the arrays. -/
module

public import proofs.«01_k».proof.Proof.Block
public import Idealize.ShloMosaic.Lib.Claim
public import Idealize.ShloMosaic.Lib.Pipeline.ValueKit.Point
public import Idealize.ShloMosaic.Lib.StableHlo.RunHlo

@[expose] public section

set_option maxRecDepth 16384

noncomputable section

open Idealize.ShloMosaic Idealize.ShloMosaic.TcCoe Idealize.SL.Sem
open Idealize.ShloMosaic.Pipeline (Dat)

namespace Cert.KernelIdeal

open Gen Vq

variable (m : (ℓ : Loc nD τ sig) → Buf (Elt Ideal) ℓ) (c : Dev nD)

/-! ## The arrays as the region finds them -/

/-- The hidden states of device `c`. -/
abbrev argHs : S2x2048x1024.Idx → EReal := m ((c : Thread nD τ).loc main_arg0)
/-- The codebook of device `c`. -/
abbrev argCb : S1x640x128.Idx → EReal := m ((c : Thread nD τ).loc main_arg1)
/-- The projection of device `c`. -/
abbrev argW : S1024x640.Idx → EReal := m ((c : Thread nD τ).loc main_arg2)
/-- The bias of device `c`. -/
abbrev argB : S640.Idx → EReal := m ((c : Thread nD τ).loc main_arg3)

/-- The flattened hidden states: row `t` is token `t`'s. -/
theorem entry_hs (t : Fin 4096) (k : Fin 1024) :
    V m c main_v0 (ix2 t k) = argHs m c (ix3 (tokenBatch t) (tokenPos t) k) := by
  simp only [V, V0, hostOps0, List.flatten_cons, List.flatten_nil, List.append_nil, List.cons_append, List.nil_append]
  after_results_simp
  pointwise
  rfl

/-- The codebook without its unit axis. -/
theorem entry_cb (r : Fin 640) (d : Fin 128) : V m c main_v1 (ix2 r d) = argCb m c (ix3 0 r d) := by
  simp only [V, V0, hostOps0, List.flatten_cons, List.flatten_nil, List.append_nil, List.cons_append, List.nil_append]
  after_results_simp
  pointwise

/-- The bias as a column. -/
theorem entry_b (r : Fin 640) : V m c main_v2 (ix2 r 0) = argB m c (ix1 r) := by
  simp only [V, V0, hostOps0, List.flatten_cons, List.flatten_nil, List.append_nil, List.cons_append, List.nil_append]
  after_results_simp
  pointwise

/-! ## The blocks of a point -/

/-- Where the windows' blocks stand at point `t`. -/
theorem index_at (t : Fin cfg0.N) :
    win0_0.index t = ![t.val, 0] ∧ win0_1.index t = ![0, 0] ∧ win0_2.index t = ![0, 0] ∧ win0_3.index t = ![0, 0]
      ∧ win0_4.index t = ![t.val, 0] ∧ win0_5.index t = ![0, t.val] := by
  rcases fin_N0 t with rfl | rfl | rfl | rfl <;> decide +kernel

/-- The token at place `u` of point `t`'s block. -/
def blockToken (t : Fin cfg0.N) (u : Fin 1024) : Fin 4096 :=
  ⟨1024 * t.val + u.val, by have h : t.val < 4 := N_0 ▸ t.isLt; omega⟩

/-- A point's block of hidden states holds those of its 1024 tokens. -/
theorem blk_hs (t : Fin cfg0.N) (u k : Fin 1024) :
    iblk m c 0 t (ix2 u k) = argHs m c (ix3 (tokenBatch (blockToken t u)) (tokenPos (blockToken t u)) k) := by
  rw [← entry_hs]
  blk_ext [iblk, blockToken, index_at t]

/-- Every point's block of the projection is the whole projection. -/
theorem blk_w (t : Fin cfg0.N) : iblk m c 1 t = argW m c := by blk_ext! [iblk, V_main_arg2, index_at t]
/-- Every point's block of the bias is the whole column. -/
theorem blk_b (t : Fin cfg0.N) : iblk m c 2 t = V m c main_v2 := by blk_ext! [iblk, index_at t]
/-- Every point's block of the codebook is the whole codebook. -/
theorem blk_cb (t : Fin cfg0.N) : iblk m c 3 t = V m c main_v1 := by blk_ext! [iblk, index_at t]

/-- The logits of a point's block are the logits of its tokens. -/
theorem blockLogits_eq (t : Fin cfg0.N) (u : Fin 1024) :
    blockLogits (iblk m c 0 t) (iblk m c 1 t) (iblk m c 2 t) u
      = logits (argHs m c) (argW m c) (argB m c) (blockToken t u) := by
  funext g v
  rw [blk_w, blk_b]
  unfold blockLogits logits
  rw [entry_b]
  refine congrArg (· + _) (Finset.sum_congr rfl fun k _ => ?_)
  rw [blk_hs, mul_comm]

/-! ## The two result arrays -/

/-- The choices, codes by tokens. -/
def choiceArr : S640x4096.Idx → EReal :=
  fun i => oneHot (logits (argHs m c) (argW m c) (argB m c) (i 1) (colGroup (i 0))) (colCode (i 0))

/-- The quantized vectors, tokens by channels. -/
def vectorArr : S4096x256.Idx → EReal :=
  fun i => ∑ v : Fin 320, oneHot (logits (argHs m c) (argW m c) (argB m c) (i 0) (chanGroup (i 1))) v
    * argCb m c (ix3 0 (col (chanGroup (i 1)) v) (chanPlace (i 1)))

/-- What point `t` writes back to the choices is its block of `choiceArr`. -/
theorem flushed_choice (t : Fin cfg0.N) :
    (dats m 0 c).flushed 5 t = (win0_5.blk t).view.read (Elt Ideal) (choiceArr m c) := by
  show (cfg0.win 5).cut (grid0.coords t) ((dats m 0 c).after 5 t) = _
  rw [after0_5]
  funext y
  obtain ⟨r, u, rfl⟩ : ∃ (r : Fin 640) (u : Fin 1024), y = ix2 r u := ⟨y 0, y 1, eq_ix2 y⟩
  refine (out_choice _ _ _ _ r u).trans ?_
  rw [blockLogits_eq]
  show choiceArr m c (ix2 r (blockToken t u)) = _
  symm
  blk_ext [blockToken, index_at t]

/-- What point `t` writes back to the vectors is its block of `vectorArr`. -/
theorem flushed_vector (t : Fin cfg0.N) :
    (dats m 0 c).flushed 4 t = (win0_4.blk t).view.read (Elt Ideal) (vectorArr m c) := by
  show (cfg0.win 4).cut (grid0.coords t) ((dats m 0 c).after 4 t) = _
  rw [after0_4]
  funext y
  obtain ⟨u, d, rfl⟩ : ∃ (u : Fin 1024) (d : Fin 256), y = ix2 u d := ⟨y 0, y 1, eq_ix2 y⟩
  refine (out_vector _ _ _ _ u d).trans ?_
  rw [blockLogits_eq, blk_cb]
  refine (Finset.sum_congr rfl fun v _ => congrArg (_ * ·) (entry_cb m c _ _)).trans ?_
  show vectorArr m c (ix2 (blockToken t u) d) = _
  symm
  blk_ext [blockToken, index_at t]

/-- The choices' blocks, 1024 tokens each, cover the array. -/
theorem cover_choice (i : S640x4096.Idx) :
    ∃ t : Fin cfg0.N, (cfg0.win 5).flush t = true ∧ i ∈ ((cfg0.win 5).blk t).view.set := by
  have h0 : (i 0 : Nat) < 640 := (i 0).isLt
  have h1 : (i 1 : Nat) < 4096 := (i 1).isLt
  have ht : (i 1 : Nat) / 1024 < cfg0.N := by rw [show cfg0.N = 4 from N_0]; omega
  refine ⟨⟨_, ht⟩, flush0_5 _, ?_⟩
  show i ∈ ((View.whole main_v3_1).slice (win0_5.rect ⟨_, ht⟩)).set
  rw [View.set_slice_whole, Rect.mem_set_unit]
  have e := (index_at ⟨_, ht⟩).2.2.2.2.2
  intro a
  match a with
  | ⟨0, _⟩ =>
    show win0_5.index ⟨_, ht⟩ 0 * 640 ≤ (i 0 : Nat) ∧ (i 0 : Nat) < win0_5.index ⟨_, ht⟩ 0 * 640 + 640
    rw [e]; simp only [Matrix.cons_val_zero]; omega
  | ⟨1, _⟩ =>
    show win0_5.index ⟨_, ht⟩ 1 * 1024 ≤ (i 1 : Nat) ∧ (i 1 : Nat) < win0_5.index ⟨_, ht⟩ 1 * 1024 + 1024
    rw [e]; simp only [Matrix.cons_val_one, Matrix.cons_val_zero]; omega

/-- The vectors' blocks, 1024 tokens each, cover the array. -/
theorem cover_vector (i : S4096x256.Idx) :
    ∃ t : Fin cfg0.N, (cfg0.win 4).flush t = true ∧ i ∈ ((cfg0.win 4).blk t).view.set := by
  have h0 : (i 0 : Nat) < 4096 := (i 0).isLt
  have h1 : (i 1 : Nat) < 256 := (i 1).isLt
  have ht : (i 0 : Nat) / 1024 < cfg0.N := by rw [show cfg0.N = 4 from N_0]; omega
  refine ⟨⟨_, ht⟩, flush0_4 _, ?_⟩
  show i ∈ ((View.whole main_v3_0).slice (win0_4.rect ⟨_, ht⟩)).set
  rw [View.set_slice_whole, Rect.mem_set_unit]
  have e := (index_at ⟨_, ht⟩).2.2.2.2.1
  intro a
  match a with
  | ⟨0, _⟩ =>
    show win0_4.index ⟨_, ht⟩ 0 * 1024 ≤ (i 0 : Nat) ∧ (i 0 : Nat) < win0_4.index ⟨_, ht⟩ 0 * 1024 + 1024
    rw [e]; simp only [Matrix.cons_val_zero]; omega
  | ⟨1, _⟩ =>
    show win0_4.index ⟨_, ht⟩ 1 * 256 ≤ (i 1 : Nat) ∧ (i 1 : Nat) < win0_4.index ⟨_, ht⟩ 1 * 256 + 256
    rw [e]; simp only [Matrix.cons_val_one, Matrix.cons_val_zero]; omega

/-- The choices after the last point. -/
theorem final_choice : (dats m 0 c).arrAt 5 cfg0.N = choiceArr m c :=
  (dats m 0 c).arrAt_eq_of_cover 5 (choiceArr m c) (fun t _ => flushed_choice m c t) cover_choice

/-- The vectors after the last point. -/
theorem final_vector : (dats m 0 c).arrAt 4 cfg0.N = vectorArr m c :=
  (dats m 0 c).arrAt_eq_of_cover 4 (vectorArr m c) (fun t _ => flushed_vector m c t) cover_vector

end Cert.KernelIdeal

end
-- ==== Proof.Run.lean ====
/- The kernel's two results after its run: the layout operations behind the grid applied to the two arrays. -/
module

public import proofs.«01_k».proof.Proof.Array

@[expose] public section

set_option maxRecDepth 16384

noncomputable section

open Idealize.ShloMosaic Idealize.ShloMosaic.TcCoe Idealize.SL.Sem
open Idealize.ShloMosaic.Pipeline (Dat)

namespace Cert.KernelIdeal

open Gen Vq

variable (m : (ℓ : Loc nD τ sig) → Buf (Elt Ideal) ℓ) (c : Dev nD)

/-- The array of window `w` once the grid is done. -/
theorem array_at (w : Fin 6) :
    Pipeline.withArrays (cfgs 0).spec c (V0 m c) (fun w => (dats m 0 c).arrAt w (cfgs 0).N)
      (Proc.tc.devRef (Pipeline.arrRef (cfgs 0).spec w)) = (dats m 0 c).arrAt w cfg0.N :=
  Pipeline.withArrays_arr (cfgs 0).spec winFacts0.arr_inj c (V0 m c) (fun w => (dats m 0 c).arrAt w (cfgs 0).N) w

/-- The second result: the choices transposed to tokens by codes and cut into the two groups. -/
theorem tail_dist :
    Pipeline.afterTail₀ cfgs (dats m) 0 (V0 m) [hostOps1] c main_v5
      = dist (argHs m c) (argW m c) (argB m c) := by
  simp only [hostOps1, Pipeline.afterTail₀, List.flatten_cons, List.flatten_nil, List.append_nil]
  after_results_simp
  rw [show Pipeline.withArrays (cfgs 0).spec c (V0 m c) (fun w => (dats m 0 c).arrAt w (cfgs 0).N)
    (Proc.tc.devRef main_v3_1) = choiceArr m c from (array_at m c 5).trans (final_choice m c)]
  funext i
  obtain ⟨t, g, v, rfl⟩ : ∃ (t : Fin 4096) (g : Fin 2) (v : Fin 320), i = ix3 t g v := ⟨i 0, i 1, i 2, eq_ix3 i⟩
  pointwise
  show oneHot (logits (argHs m c) (argW m c) (argB m c) t (colGroup ⟨g.val * 320 + v.val, _⟩))
    (colCode ⟨g.val * 320 + v.val, _⟩) = oneHot (logits (argHs m c) (argW m c) (argB m c) t g) v
  rw [show (⟨g.val * 320 + v.val, by omega⟩ : Fin 640) = col g v from Fin.ext (congrArg (· + v.val) (mul_comm _ _)),
    colGroup_col, colCode_col]

/-- The first result: the quantized vectors, the tokens cut into the two batches. -/
theorem tail_quantized :
    Pipeline.afterTail₀ cfgs (dats m) 0 (V0 m) [hostOps1] c main_v6
      = quantized (argHs m c) (argCb m c) (argW m c) (argB m c) := by
  simp only [hostOps1, Pipeline.afterTail₀, List.flatten_cons, List.flatten_nil, List.append_nil]
  after_results_simp
  rw [show Pipeline.withArrays (cfgs 0).spec c (V0 m c) (fun w => (dats m 0 c).arrAt w (cfgs 0).N)
    (Proc.tc.devRef main_v3_0) = vectorArr m c from (array_at m c 4).trans (final_vector m c)]
  funext i
  obtain ⟨s, p, d, rfl⟩ : ∃ (s : Fin 2) (p : Fin 2048) (d : Fin 256), i = ix3 s p d := ⟨i 0, i 1, i 2, eq_ix3 i⟩
  pointwise
  rw [show (⟨s.val * 2048 + p.val, by omega⟩ : Fin 4096) = token s p from
    Fin.ext (congrArg (· + p.val) (mul_comm _ _))]
  rfl

/-- The run of the kernel: both results at the stated functions of the arguments, the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v6) = quantized (argHs m c) (argCb m c) (argW m c) (argB m c)
      ∧ r.2.mem ((c : Thread nD τ).loc main_v5) = dist (argHs m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from (run_main m ρ)
  · exact tail_quantized m c
  · exact tail_dist m c
  · exact W_main_arg0 m (dats m) c
  · exact W_main_arg1 m (dats m) c
  · exact W_main_arg3 m (dats m) c

end Cert.KernelIdeal

end
-- ==== Proof.Reference.lean ====
/- What the reference computes, read index by index. -/
module

public import proofs.«01_k».proof.Proof.Spec
public import proofs.«01_k».proof.Proof.Gen.ReferenceIdeal
public import Idealize.ShloMosaic.Lib.Claim
public import Idealize.ShloMosaic.Lib.StableHlo.RunHlo
public import Idealize.ShloMosaic.Lib.Quiescent
public import Idealize.ShloMosaic.PureOps.Reduce

@[expose] public section

set_option maxRecDepth 16384

noncomputable section

open Idealize.ShloMosaic Idealize.ShloMosaic.TcCoe Idealize.SL.Sem

namespace Cert.ReferenceIdeal

open Facts₀ Vq

variable (hs : FVec Ideal S2x2048x1024 .f32) (cb : FVec Ideal S1x640x128 .f32)
variable (w : FVec Ideal S1024x640 .f32) (b : FVec Ideal S640 .f32)

/-! ## The reference's stages, as its operations state them -/

/-- The logits, one row of 320 per token and group. -/
def refLogits : FVec Ideal S8192x320 .f32 :=
  shapeCast S8192x320 (addf (Host.dotGeneral dot_S2x2048x1024_S1024x640_S2x2048x640_2_0_01_1_n_n none hs w)
    (broadcastInDim S2x2048x640 ![0, 1, 2] bcast_S1x1x640_S2x2048x640_0_1_2 (broadcastInDim S1x1x640 ![2] bcast_S640_S1x1x640_2 b)))
    shapeCasts_S2x2048x640_S8192x320

/-- The argmax of every row. -/
def refIndex (L : FVec Ideal S8192x320 .f32) : IVec S8192 32 := fun j =>
  (Host.argReduce reducer_argmax_f32_i32 L (iotaInDim S8192x320 32 1) (constant (F := Ideal) S_ .f32 0xFF800000#32)
    (constantI S_ 32 0#32) reducesTo_S8192x320_S8192_d1 h_S_ j).2

/-- The one-hot rows of the indices. -/
def refOneHot (ix : IVec S8192 32) : FVec Ideal S8192x320 .f32 :=
  uitofp .f32 (cmpi .eq (broadcastInDim S8192x320 ![0, 1] bcast_S8192x1_S8192x320_0_1 (broadcastInDim S8192x1 ![0] bcast_S8192_S8192x1_0 ix))
    (broadcastInDim S8192x320 ![0, 1] bcast_S1x320_S8192x320_0_1 (iotaInDim S1x320 32 1)))

/-- The one-hot rows, cut into the two groups. -/
def refDist : FVec Ideal S4096x2x320 .f32 :=
  shapeCast S4096x2x320 (refOneHot (refIndex (refLogits hs w b))) shapeCasts_S8192x320_S4096x2x320

/-- The chosen codebook rows, the two groups' side by side. -/
def refQuantized : FVec Ideal S2x2048x256 .f32 :=
  shapeCast S2x2048x256 (transpose S4096x2x128 [2, 0, 1]
    (Host.dotGeneral dot_S2x320x128_S4096x2x320_S2x128x4096_1_2_2_0_0_1 none
      (shapeCast S2x320x128 cb shapeCasts_S1x640x128_S2x320x128) (refDist hs w b))
    transposes_S2x128x4096_S4096x2x128_2_0_1) shapeCasts_S4096x2x128_S2x2048x256

/-! ## The stages read at an index -/

/-- The row of token `t` and group `g` among the 8192. -/
def rowOf (t : Fin 4096) (g : Fin 2) : Fin 8192 := ⟨t.val * 2 + g.val, by omega⟩

/-- That row of the reference's logits holds the token's logits for the group. -/
theorem refLogits_apply (t : Fin 4096) (g : Fin 2) (v : Fin 320) :
    refLogits hs w b (ix2 (rowOf t g) v) = logits hs w b t g v := by
  have h1 : (rowOf t g).val = t.val * 2 + g.val := rfl
  have hg : g.val < 2 := g.isLt
  pointwise [refLogits]
  have e1 : (⟨(rowOf t g).val / 4096, by omega⟩ : Fin 2) = tokenBatch t :=
    Fin.ext (show (rowOf t g).val / 4096 = t.val / 2048 by omega)
  have e2 : (⟨(rowOf t g).val / 2 % 2048, by omega⟩ : Fin 2048) = tokenPos t :=
    Fin.ext (show (rowOf t g).val / 2 % 2048 = t.val % 2048 by omega)
  have e3 : (⟨(rowOf t g).val % 2 * 320 + v.val, by omega⟩ : Fin 640) = col g v :=
    Fin.ext (show (rowOf t g).val % 2 * 320 + v.val = 320 * g.val + v.val by omega)
  rw [e1, e2, e3]
  rfl

/-- The pairs that a reduction along the rows of a matrix folds at row `r` are those of that row. -/
theorem mem_row_fiber {α β : Type} {n0 n1 : Nat} (x : (⟨2, ![n0, n1]⟩ : Shape).Idx → α) (y : (⟨2, ![n0, n1]⟩ : Shape).Idx → β)
    (h : (⟨2, ![n0, n1]⟩ : Shape).ReducesTo [1] ⟨1, ![n0]⟩) (r : Fin n0) (p : α × β) :
    p ∈ Host.argReduceFiber x y h (ix1 r) ↔ ∃ v : Fin n1, p = (x (ix2 r v), y (ix2 r v)) := by
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 h (ix1 r) _).mp hn
    exact ⟨k, by rw [← hk]; rfl⟩
  · rintro ⟨v, rfl⟩
    refine ⟨Shape.rowMajor _ (ix2 r v), ?_, ?_⟩
    · rw [Equiv.symm_apply_apply]
      exact (Shape.ReducesTo.fiber_r2_a1 h (ix1 r) _).mpr ⟨v, rfl⟩
    · rw [Equiv.symm_apply_apply]

/-- An argmax along the rows of a matrix with 320 columns: whatever step keeps the better of two pairs, started from
    minus infinity at place 0, gives at every row the word of the first place of the row's greatest value. -/
theorem argReduce_row {n0 : Nat} {u : Shape} {f : EReal × BitVec 32 → EReal × BitVec 32 → EReal × BitVec 32}
    (hf : ∀ p q, (f p q = p ∨ f p q = q) ∧ Beats (f p q) p ∧ Beats (f p q) q)
    (x : FVec Ideal ⟨2, ![n0, 320]⟩ .f32) (y : IVec ⟨2, ![n0, 320]⟩ 32) (hy : ∀ a v, y (ix2 a v) = BitVec.ofNat 32 v.val)
    (x₀ : FVec Ideal u .f32) (y₀ : IVec u 32) (h : (⟨2, ![n0, 320]⟩ : Shape).ReducesTo [1] ⟨1, ![n0]⟩) (hu : 0 < u.numel)
    (hx₀ : x₀ (Shape.Idx.first hu) = (⊥ : EReal)) (hy₀ : y₀ (Shape.Idx.first hu) = 0#32) (r : Fin n0) :
    (Host.argReduce (F := Ideal) f x y x₀ y₀ h hu (ix1 r)).2 = BitVec.ofNat 32 (firstMax fun v => x (ix2 r v)).val := by
  rw [Ideal.argReduce_eq_reduce2, Host.reduce2_eq_foldl_fiber, hx₀, hy₀]
  refine foldl_firstMax hf (fun v => x (ix2 r v)) _ fun p => (mem_row_fiber x y h r p).trans ?_
  simp only [hy]

/-- The argmax as a function of the row, every operand written out. -/
theorem refIndex_eq (L : FVec Ideal S8192x320 .f32) : refIndex L = fun j =>
    (Host.argReduce reducer_argmax_f32_i32 L (iotaInDim S8192x320 32 1) (constant (F := Ideal) S_ .f32 0xFF800000#32)
      (constantI S_ 32 0#32) reducesTo_S8192x320_S8192_d1 h_S_ j).2 := rfl

/-- The argmax of a row is the word of the first place of its greatest value. -/
theorem refIndex_apply (L : FVec Ideal S8192x320 .f32) (r : Fin 8192) :
    refIndex L (ix1 r) = BitVec.ofNat 32 (firstMax fun v => L (ix2 r v)).val :=
  (congrFun (refIndex_eq L) (ix1 r)).trans <|
    argReduce_row (fun p q => argmax_step p q _ rfl) L (iotaInDim S8192x320 32 1) (fun _ _ => rfl)
      (constant (F := Ideal) S_ .f32 0xFF800000#32) (constantI S_ 32 0#32) reducesTo_S8192x320_S8192_d1 h_S_
      (show Ideal.ofBits .f32 0xFF800000#32 = ⊥ by simp [Ideal.ofBits, Ideal.ieee]) rfl r

/-- The one-hot row at an index that is the first place of a row's greatest value. -/
theorem refOneHot_apply (ix : IVec S8192 32) (f : Fin 320 → EReal) (r : Fin 8192) (v : Fin 320)
    (h : ix (ix1 r) = BitVec.ofNat 32 (firstMax f).val) : refOneHot ix (ix2 r v) = oneHot f v := by
  pointwise [refOneHot]
  rw [h]
  show (((BitVec.ofBool (BitVec.ofNat 32 (firstMax f).val == BitVec.ofNat 32 v.val)).toNat : ℝ) : EReal) = _
  unfold oneHot
  by_cases hv : v = firstMax f
  · rw [if_pos hv, ← hv, beq_self_eq_true]; simp
  · rw [if_neg hv, beq_eq_false_iff_ne.mpr fun e => hv (place_inj.mp e).symm]; simp

/-- The choice of token `t` in group `g`. -/
theorem refDist_apply (t : Fin 4096) (g : Fin 2) (v : Fin 320) :
    refDist hs w b (ix3 t g v) = oneHot (logits hs w b t g) v := by
  pointwise [refDist]
  refine refOneHot_apply _ _ (rowOf t g) v ((refIndex_apply _ _).trans ?_)
  rw [show (fun v => refLogits hs w b (ix2 (rowOf t g) v)) = logits hs w b t g from
    funext fun v => refLogits_apply hs w b t g v]

/-- The reference's second result is the stated function. -/
theorem refDist_eq : refDist hs w b = Vq.dist hs w b := by
  funext i
  obtain ⟨t, g, v, rfl⟩ : ∃ (t : Fin 4096) (g : Fin 2) (v : Fin 320), i = ix3 t g v := ⟨i 0, i 1, i 2, eq_ix3 i⟩
  exact refDist_apply hs w b t g v

/-- The reference's first result is the stated function. -/
theorem refQuantized_eq : refQuantized hs cb w b = quantized hs cb w b := by
  funext i
  obtain ⟨s, p, d, rfl⟩ : ∃ (s : Fin 2) (p : Fin 2048) (d : Fin 256), i = ix3 s p d := ⟨i 0, i 1, i 2, eq_ix3 i⟩
  pointwise [refQuantized]
  refine Finset.sum_congr rfl fun v _ => ?_
  rw [refDist_apply, mul_comm]
  have e1 : (⟨s.val * 2048 + p.val, by omega⟩ : Fin 4096) = token s p := Fin.ext (congrArg (· + p.val) (mul_comm _ _))
  have e2 : (⟨d.val / 128 * 320 + v.val, by omega⟩ : Fin 640) = col (chanGroup d) v :=
    Fin.ext (congrArg (· + v.val) (mul_comm _ _))
  rw [e1, e2]
  rfl

/-! ## The run -/

variable (m : (ℓ : Loc nD τ sig) → Buf (Elt Ideal) ℓ) (ρ : Dev nD → PrngReg)

/-- The run of the reference: both results at the stated functions of the arguments, the arguments as they were, every
    counter at zero. -/
theorem run : θ_run defs (onTc (τ := τ) (main (F := Ideal))) ⟨m, fun _ => 0, ρ⟩ fun r => (∀ c : Dev nD,
      r.2.mem ((c : Thread nD τ).loc main_v11) = quantized (m ((c : Thread nD τ).loc main_arg0))
        (m ((c : Thread nD τ).loc main_arg1)) (m ((c : Thread nD τ).loc main_arg2)) (m ((c : Thread nD τ).loc main_arg3))
      ∧ r.2.mem ((c : Thread nD τ).loc main_v7) = Vq.dist (m ((c : Thread nD τ).loc main_arg0))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 := by
  hlo_run
  · intro c
    simp -implicitDefEqProofs only [StableHlo.TRef.toBuf, StableHlo.TRef.ofBuf, cast_cast, cast_eq]
    refine ⟨?_, ?_, trivial, trivial, trivial, trivial⟩
    · refine Eq.trans ?_ (refQuantized_eq _ _ _ _)
      unfold refQuantized refDist refOneHot refIndex refLogits
      rfl
    · refine Eq.trans ?_ (refDist_eq _ _ _)
      unfold refDist refOneHot refIndex refLogits
      rfl
  · exact Idealize.ShloMosaic.sem_eq_zero_of_no_sems (by decide) r.2

end Cert.ReferenceIdeal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Run
public import proofs.«01_k».proof.Proof.Reference
public import Idealize.ShloMosaic.Lib.Claim

@[expose] public section

noncomputable section

namespace Cert.Proof

open Idealize.ShloMosaic Idealize.SL.Sem

/-- From equal arguments the idealized kernel and the reference end with equal results: the quantized vectors and the
    one-hot choices of `Vq`, as functions of the arguments. -/
theorem algebraic : Cert.algebraic_KernelIdeal_ReferenceIdeal := by
  intro m g m' g' _ hagree
  refine ⟨fun c => Vq.quantized (KernelIdeal.argHs m c) (KernelIdeal.argCb m c) (KernelIdeal.argW m c) (KernelIdeal.argB m c),
    fun c => Vq.dist (KernelIdeal.argHs m c) (KernelIdeal.argW m c) (KernelIdeal.argB m c), KernelIdeal.run m g, ?_⟩
  run_from (ReferenceIdeal.run m' g')

/-- The reference leaves its arguments as they were and ends with every counter at zero. -/
theorem frame_reference : Cert.quiescent_ReferenceIdeal := by
  intro m g _
  run_from (ReferenceIdeal.run m g)
  exact fun _ => ⟨trivial, trivial, trivial, trivial⟩

/-- Every claim made of the three programs. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
